-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_hw" .f32 0x3AE38E39#32 ((1 / 576 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8x384x24x24 : Shape := ⟨5, ![4, 8, 384, 24, 24]⟩
abbrev S4x384x24x24 : Shape := ⟨4, ![4, 384, 24, 24]⟩
abbrev S4x8x24x24 : Shape := ⟨4, ![4, 8, 24, 24]⟩
abbrev S4x8x4x384 : Shape := ⟨4, ![4, 8, 4, 384]⟩
abbrev S_ : Shape := ⟨0, ![]⟩
abbrev S4x8x24x24x384 : Shape := ⟨5, ![4, 8, 24, 24, 384]⟩
abbrev S32x576x384 : Shape := ⟨3, ![32, 576, 384]⟩
abbrev S16x2x576 : Shape := ⟨3, ![16, 2, 576]⟩
abbrev S1x4x8x4x384 : Shape := ⟨5, ![1, 4, 8, 4, 384]⟩
abbrev S2x4x8x4x384 : Shape := ⟨5, ![2, 4, 8, 4, 384]⟩
abbrev S1x2x16x8x384 : Shape := ⟨5, ![1, 2, 16, 8, 384]⟩
abbrev S1x1 : Shape := ⟨2, ![1, 1]⟩
abbrev S16x2x384 : Shape := ⟨3, ![16, 2, 384]⟩
abbrev S2x576x384 : Shape := ⟨3, ![2, 576, 384]⟩
abbrev S1x2x384 : Shape := ⟨3, ![1, 2, 384]⟩
abbrev S1x1x1x8x384 : Shape := ⟨5, ![1, 1, 1, 8, 384]⟩
abbrev S1x8x384 : Shape := ⟨3, ![1, 8, 384]⟩
abbrev S1x1x576 : Shape := ⟨3, ![1, 1, 576]⟩
abbrev S1x576 : Shape := ⟨2, ![1, 576]⟩
abbrev S1 : Shape := ⟨1, ![1]⟩
abbrev S1x1x1 : Shape := ⟨3, ![1, 1, 1]⟩
abbrev S1x576x384 : Shape := ⟨3, ![1, 576, 384]⟩
abbrev S576x384 : Shape := ⟨2, ![576, 384]⟩
abbrev S1x384 : Shape := ⟨2, ![1, 384]⟩
abbrev S1x4x384 : Shape := ⟨3, ![1, 4, 384]⟩
abbrev S4x384 : Shape := ⟨2, ![4, 384]⟩
abbrev S4 : Shape := ⟨1, ![4]⟩
abbrev S4x1 : Shape := ⟨2, ![4, 1]⟩
abbrev S384 : Shape := ⟨1, ![384]⟩
abbrev S1x1x384 : Shape := ⟨3, ![1, 1, 384]⟩
abbrev S4x8x384 : Shape := ⟨3, ![4, 8, 384]⟩

abbrev nBuf : Space → Nat
  | .hbm => 17
  | .vmem => 7
  | .smem => 0
  | _ => 0

abbrev bufTy : (tb : Table) → Fin (tcTables nBuf tb) → BufTy
  | .hbm, ⟨0, _⟩ => ⟨S4x8x384x24x24, .f32⟩
  | .hbm, ⟨1, _⟩ => ⟨S4x384x24x24, .f32⟩
  | .hbm, ⟨2, _⟩ => ⟨S4x384x24x24, .f32⟩
  | .hbm, ⟨3, _⟩ => ⟨S4x8x24x24, .f32⟩
  | .hbm, ⟨4, _⟩ => ⟨S4x8x4x384, .f32⟩
  | .hbm, ⟨5, _⟩ => ⟨S4x8x4x384, .f32⟩
  | .hbm, ⟨6, _⟩ => ⟨S_, .f32⟩
  | .hbm, ⟨7, _⟩ => ⟨S4x8x24x24x384, .f32⟩
  | .hbm, ⟨8, _⟩ => ⟨S32x576x384, .f32⟩
  | .hbm, ⟨9, _⟩ => ⟨S16x2x576, .f32⟩
  | .hbm, ⟨10, _⟩ => ⟨S1x4x8x4x384, .f32⟩
  | .hbm, ⟨11, _⟩ => ⟨S1x4x8x4x384, .f32⟩
  | .hbm, ⟨12, _⟩ => ⟨S2x4x8x4x384, .f32⟩
  | .hbm, ⟨13, _⟩ => ⟨S1x2x16x8x384, .f32⟩
  | .hbm, ⟨14, _⟩ => ⟨S1x1, .f32⟩
  | .hbm, ⟨15, _⟩ => ⟨S16x2x384, .f32⟩
  | .hbm, ⟨16, _⟩ => ⟨S4x8x384, .f32⟩
  | .local _ .vmem, ⟨0, _⟩ => ⟨S2x576x384, .f32⟩
  | .local _ .vmem, ⟨1, _⟩ => ⟨S2x576x384, .f32⟩
  | .local _ .vmem, ⟨2, _⟩ => ⟨S16x2x576, .f32⟩
  | .local _ .vmem, ⟨3, _⟩ => ⟨S1x2x16x8x384, .f32⟩
  | .local _ .vmem, ⟨4, _⟩ => ⟨S1x1, .f32⟩
  | .local _ .vmem, ⟨5, _⟩ => ⟨S1x2x384, .f32⟩
  | .local _ .vmem, ⟨6, _⟩ => ⟨S1x2x384, .f32⟩
  | _, _ => ⟨S4x8x384x24x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def k0_off1 (i : grid0.Coords) : Fin 5 → Nat :=
  let c0 : Index := 0#32
  let c0_0 : Index := 0#32
  let arg0 : BitVec 32 := BitVec.ofNat 32 (i 0).val
  let v0 : Index := Scalar.indexCast arg0
  let c0_1 : Index := 0#32
  let c0_2 : Index := 0#32
  ![0, 0, v0.toNat, 0, 0]
def k0_off2 (i : grid0.Coords) : Fin 5 → Nat :=
  let c0_3 : Index := 0#32
  let c1 : Index := 1#32
  let arg0 : BitVec 32 := BitVec.ofNat 32 (i 0).val
  let v3 : Index := Scalar.indexCast arg0
  let c0_4 : Index := 0#32
  let c0_5 : Index := 0#32
  ![0, 1, v3.toNat, 0, 0]
def k0_off3 (i : grid0.Coords) : Fin 3 → Nat :=
  let arg0 : BitVec 32 := BitVec.ofNat 32 (i 0).val
  let v6 : Index := Scalar.indexCast arg0
  let c0_6 : Index := 0#32
  let c0_7 : Index := 0#32
  ![v6.toNat, 0, 0]
def k0_off4 (i : grid0.Coords) : Fin 3 → Nat :=
  let arg0 : BitVec 32 := BitVec.ofNat 32 (i 0).val
  let v54 : Index := Scalar.indexCast arg0
  let c1_25 : Index := 1#32
  let c0_26 : Index := 0#32
  ![v54.toNat, 1, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x576x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2x576 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2x16x8x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "inv_hw" => some ((1 / 576 : ℝ) : EReal)
  | _ => none
-- ==== ReferenceIdeal.lean ====
abbrev S4x8x384x24x24 : Shape := ⟨5, ![4, 8, 384, 24, 24]⟩
abbrev S4x384x24x24 : Shape := ⟨4, ![4, 384, 24, 24]⟩
abbrev S4x8x24x24 : Shape := ⟨4, ![4, 8, 24, 24]⟩
abbrev S4x8x4x384 : Shape := ⟨4, ![4, 8, 4, 384]⟩
abbrev S_ : Shape := ⟨0, ![]⟩
abbrev S4x8 : Shape := ⟨2, ![4, 8]⟩
abbrev S4x8x1x1 : Shape := ⟨4, ![4, 8, 1, 1]⟩
abbrev S4x8x1x24x24 : Shape := ⟨5, ![4, 8, 1, 24, 24]⟩
abbrev S4x8x384 : Shape := ⟨3, ![4, 8, 384]⟩
abbrev S4x8x1 : Shape := ⟨3, ![4, 8, 1]⟩
abbrev S4x8x1x384 : Shape := ⟨4, ![4, 8, 1, 384]⟩
abbrev S4x8x4 : Shape := ⟨3, ![4, 8, 4]⟩
abbrev S4x8x4x1 : Shape := ⟨4, ![4, 8, 4, 1]⟩

abbrev nBuf : Space → Nat
  | .hbm => 65
  | .vmem => 0
  | .smem => 0
  | _ => 0

abbrev bufTy : (tb : Table) → Fin (tcTables nBuf tb) → BufTy
  | .hbm, ⟨0, _⟩ => ⟨S4x8x384x24x24, .f32⟩
  | .hbm, ⟨1, _⟩ => ⟨S4x384x24x24, .f32⟩
  | .hbm, ⟨2, _⟩ => ⟨S4x384x24x24, .f32⟩
  | .hbm, ⟨3, _⟩ => ⟨S4x8x24x24, .f32⟩
  | .hbm, ⟨4, _⟩ => ⟨S4x8x4x384, .f32⟩
  | .hbm, ⟨5, _⟩ => ⟨S4x8x4x384, .f32⟩
  | .hbm, ⟨6, _⟩ => ⟨S_, .f32⟩
  | .hbm, ⟨7, _⟩ => ⟨S_, .f32⟩
  | .hbm, ⟨8, _⟩ => ⟨S4x8, .f32⟩
  | .hbm, ⟨9, _⟩ => ⟨S4x8x1x1, .f32⟩
  | .hbm, ⟨10, _⟩ => ⟨S_, .f32⟩
  | .hbm, ⟨11, _⟩ => ⟨S_, .f32⟩
  | .hbm, ⟨12, _⟩ => ⟨S4x8x1x1, .f32⟩
  | .hbm, ⟨13, _⟩ => ⟨S4x8x1x1, .f32⟩
  | .hbm, ⟨14, _⟩ => ⟨S4x8x1x24x24, .f32⟩
  | .hbm, ⟨15, _⟩ => ⟨S4x8x384x24x24, .f32⟩
  | .hbm, ⟨16, _⟩ => ⟨S4x8x384x24x24, .f32⟩
  | .hbm, ⟨17, _⟩ => ⟨S_, .f32⟩
  | .hbm, ⟨18, _⟩ => ⟨S4x8x384, .f32⟩
  | .hbm, ⟨19, _⟩ => ⟨S4x8x1, .f32⟩
  | .hbm, ⟨20, _⟩ => ⟨S4x8x384, .f32⟩
  | .hbm, ⟨21, _⟩ => ⟨S4x8x384, .f32⟩
  | .hbm, ⟨22, _⟩ => ⟨S_, .f32⟩
  | .hbm, ⟨23, _⟩ => ⟨S4x8x384, .f32⟩
  | .hbm, ⟨24, _⟩ => ⟨S_, .f32⟩
  | .hbm, ⟨25, _⟩ => ⟨S4x8x384, .f32⟩
  | .hbm, ⟨26, _⟩ => ⟨S4x8x384, .f32⟩
  | .hbm, ⟨27, _⟩ => ⟨S4x8x1, .f32⟩
  | .hbm, ⟨28, _⟩ => ⟨S_, .f32⟩
  | .hbm, ⟨29, _⟩ => ⟨S4x8x1, .f32⟩
  | .hbm, ⟨30, _⟩ => ⟨S4x8x1, .i1⟩
  | .hbm, ⟨31, _⟩ => ⟨S4x8x384, .i1⟩
  | .hbm, ⟨32, _⟩ => ⟨S4x8x384, .f32⟩
  | .hbm, ⟨33, _⟩ => ⟨S4x8x1x384, .f32⟩
  | .hbm, ⟨34, _⟩ => ⟨S4x8x4x384, .f32⟩
  | .hbm, ⟨35, _⟩ => ⟨S4x8x4x384, .f32⟩
  | .hbm, ⟨36, _⟩ => ⟨S4x8x4x384, .f32⟩
  | .hbm, ⟨37, _⟩ => ⟨S_, .f32⟩
  | .hbm, ⟨38, _⟩ => ⟨S4x8x4, .f32⟩
  | .hbm, ⟨39, _⟩ => ⟨S4x8x4, .f32⟩
  | .hbm, ⟨40, _⟩ => ⟨S_, .f32⟩
  | .hbm, ⟨41, _⟩ => ⟨S4x8x4, .f32⟩
  | .hbm, ⟨42, _⟩ => ⟨S4x8x4, .f32⟩
  | .hbm, ⟨43, _⟩ => ⟨S_, .f32⟩
  | .hbm, ⟨44, _⟩ => ⟨S4x8, .f32⟩
  | .hbm, ⟨45, _⟩ => ⟨S_, .f32⟩
  | .hbm, ⟨46, _⟩ => ⟨S4x8, .f32⟩
  | .hbm, ⟨47, _⟩ => ⟨S4x8, .f32⟩
  | .hbm, ⟨48, _⟩ => ⟨S4x8x1, .f32⟩
  | .hbm, ⟨49, _⟩ => ⟨S4x8x4, .f32⟩
  | .hbm, ⟨50, _⟩ => ⟨S4x8x4, .f32⟩
  | .hbm, ⟨51, _⟩ => ⟨S4x8x4, .f32⟩
  | .hbm, ⟨52, _⟩ => ⟨S_, .f32⟩
  | .hbm, ⟨53, _⟩ => ⟨S4x8, .f32⟩
  | .hbm, ⟨54, _⟩ => ⟨S4x8x1, .f32⟩
  | .hbm, ⟨55, _⟩ => ⟨S4x8x4, .f32⟩
  | .hbm, ⟨56, _⟩ => ⟨S4x8x4, .f32⟩
  | .hbm, ⟨57, _⟩ => ⟨S4x8x4x1, .f32⟩
  | .hbm, ⟨58, _⟩ => ⟨S4x8x4x384, .f32⟩
  | .hbm, ⟨59, _⟩ => ⟨S4x8x4x384, .f32⟩
  | .hbm, ⟨60, _⟩ => ⟨S_, .f32⟩
  | .hbm, ⟨61, _⟩ => ⟨S4x8x384, .f32⟩
  | .hbm, ⟨62, _⟩ => ⟨S4x8x384, .f32⟩
  | .hbm, ⟨63, _⟩ => ⟨S4x8x384, .f32⟩
  | .hbm, ⟨64, _⟩ => ⟨S4x8x384, .f32⟩
  | _, _ => ⟨S4x8x384x24x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_v15 : Ref sig .tc := ⟨.hbm, 30, rfl⟩
abbrev main_call1_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_cst_8 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩

abbrev nD : Nat := 1
abbrev τ : Topo := Topo.v7x

variable {F : FTy → Type} [FloatOps F]
-- ==== Proof.Spec.lean ====
/-
  What one state of the readout is, on the extended reals: the masked mean of a frame, the soft assignment of the mean to
  the memory's slots, and the gated sum that is the result. The kernel's blocks and the reference are both shown to
  compute these functions.
-/
module

public import Idealize.ShloMosaic.PureOps.Ideal

@[expose] public section

noncomputable section

namespace Cert.Readout

open Idealize.ShloMosaic
open scoped BigOperators

/-- The threshold the total mask weight is compared with: the f32 number nearest `1e-5`. -/
abbrev tau : EReal := Ideal.ofBits .f32 0x3727C5AC#32

/-- The floor under the total mask weight: the f32 number nearest `1e-6`. -/
abbrev eps : EReal := Ideal.ofBits .f32 0x358637BD#32

/-- The pooled state of one channel: the mask-weighted mean of `v` when the (floored) total weight of `w` exceeds the
    threshold, else the plain mean over the 576 positions. -/
def pooled {ι : Type} [Fintype ι] (w v : ι → EReal) : EReal :=
  if tau < max eps (∑ p, w p) then Ideal.div (∑ p, v p * w p) (max eps (∑ p, w p))
  else Ideal.div (∑ p, v p) ((576 : ℝ) : EReal)

/-- The factor position `p` is multiplied by when the division is done before the sum: its share of the floored total
    weight when the total exceeds the threshold, else `1/576`. -/
def coef {ι : Type} [Fintype ι] (w : ι → EReal) (p : ι) : EReal :=
  if tau < ∑ q, w q then Ideal.div (w p) (max (∑ q, w q) eps) else ((1 / 576 : ℝ) : EReal)

/-- The squared distance of a state to slot `k` of the memory. -/
def dist (z : Fin 384 → EReal) (keys : Fin 4 → Fin 384 → EReal) (k : Fin 4) : EReal :=
  ∑ d, (z d - keys k d) * (z d - keys k d)

/-- The exponential of a logit after the largest of the four is subtracted. -/
def score (l : Fin 4 → EReal) (k : Fin 4) : EReal :=
  Ideal.exp (l k - Finset.univ.fold max ⊥ l)

/-- The soft assignment: each score over their sum. -/
def weight (l : Fin 4 → EReal) (k : Fin 4) : EReal := Ideal.div (score l k) (∑ j, score l j)

/-- The result of one state at channel `d`: the state plus the gate times the slots' values under the soft assignment
    by negated squared distance. -/
def readout (z : Fin 384 → EReal) (keys vals : Fin 4 → Fin 384 → EReal) (g : EReal) (d : Fin 384) : EReal :=
  z d + g * ∑ k, weight (fun k => -dist z keys k) k * vals k d

end Cert.Readout

end
-- ==== Proof.Answer.lean ====
/-
  The answer of the whole problem, from the seven arguments' contents: entry (b, n, d) of the result is the readout of
  state (b, n) at channel d. The positions of a state's image are pairs (row, column); a sum over them is a sum over the
  576 positions in one line.
-/
module

public import proofs.«01_k».proof.Proof.Spec
public import Idealize.ShloMosaic.Lib.Pointwise

@[expose] public section

noncomputable section

namespace Cert.Readout

open Idealize.ShloMosaic

/-- The answer: the features `feat` of state (b, n) pooled under its mask, plus the gate times the attention over the
    state's four memory slots. -/
def answer (feat : (⟨5, ![4, 8, 384, 24, 24]⟩ : Shape).Idx → EReal) (mask : (⟨4, ![4, 8, 24, 24]⟩ : Shape).Idx → EReal)
    (keys vals : (⟨4, ![4, 8, 4, 384]⟩ : Shape).Idx → EReal) (gate : EReal) (b : Fin 4) (n : Fin 8) (d : Fin 384) : EReal :=
  readout (fun d => pooled (fun q : Fin 24 × Fin 24 => mask (ix4 b n q.1 q.2)) (fun q => feat (ix5 b n d q.1 q.2)))
    (fun k d => keys (ix4 b n k d)) (fun k d => vals (ix4 b n k d)) gate d

/-- A position in one line is its row and its column. -/
def position : Fin 576 ≃ Fin 24 × Fin 24 where
  toFun p := (⟨p.val / 24, by omega⟩, ⟨p.val % 24, by omega⟩)
  invFun q := ⟨24 * q.1.val + q.2.val, by omega⟩
  left_inv p := Fin.ext (by simp; omega)
  right_inv q := by
    apply Prod.ext <;> apply Fin.ext <;> simp <;> omega

/-- A masked mean does not depend on how the positions are numbered. -/
theorem pooled_reindex {ι κ : Type} [Fintype ι] [Fintype κ] (e : ι ≃ κ) (w v : κ → EReal) :
    pooled (fun p => w (e p)) (fun p => v (e p)) = pooled w v := by
  unfold pooled
  rw [Equiv.sum_comp e w, Equiv.sum_comp e v, Equiv.sum_comp e (fun p => v p * w p)]

end Cert.Readout

end
-- ==== Proof.Consts.lean ====
/-
  The numbers that the float literals of the two programs denote.
-/
module

public import proofs.«01_k».proof.Proof.Spec

@[expose] public section

noncomputable section

namespace Cert.Readout

open Idealize.ShloMosaic

/-- The literal of the threshold is `10995116 · 2⁻⁴⁰`, as a quotient of integers. -/
theorem tau_eq : tau = ((10995116 / 1099511627776 : ℝ) : EReal) := by
  simp [tau, Ideal.ofBits, Ideal.ieee, -EReal.coe_mul]; norm_num

/-- The literal of the floor is `8796093 · 2⁻⁴³`, as a quotient of integers. -/
theorem eps_eq : eps = ((8796093 / 8796093022208 : ℝ) : EReal) := by
  simp [eps, Ideal.ofBits, Ideal.ieee, -EReal.coe_mul]; norm_num

/-- The number of positions the plain mean divides by. -/
theorem ofBits_576 : Ideal.ofBits .f32 0x44100000#32 = ((576 : ℝ) : EReal) := by
  simp [Ideal.ofBits, Ideal.ieee, -EReal.coe_mul]; norm_num

/-- The softmax temperature. -/
theorem ofBits_one : Ideal.ofBits .f32 0x3F800000#32 = ((1 : ℝ) : EReal) := by
  simp [Ideal.ofBits, Ideal.ieee, -EReal.coe_mul]; norm_num

/-- The start of a maximum is the least extended real. -/
theorem ofBits_negInf : Ideal.ofBits .f32 0xFF800000#32 = ⊥ := by
  simp [Ideal.ofBits, Ideal.ieee]

/-- The zero literal. -/
theorem ofBits_zero : Ideal.ofBits .f32 0x00000000#32 = 0 := by
  simp [Ideal.ofBits, Ideal.ieee]

end Cert.Readout

end
-- ==== Proof.Mean.lean ====
/-
  The one place where the kernel and the reference do different arithmetic: the kernel divides the mask by its total
  before the sum over positions, the reference divides the sum. The two agree at every extended real.
-/
module

public import proofs.«01_k».proof.Proof.Consts

@[expose] public section

noncomputable section

namespace Cert.Readout

open Idealize.ShloMosaic
open scoped BigOperators

/-- The floor is positive. -/
theorem eps_pos : 0 < eps := by
  rw [eps_eq]; exact_mod_cast (by norm_num : (0 : ℝ) < 8796093 / 8796093022208)

/-- The floor lies below the threshold. -/
theorem eps_lt_tau : eps < tau := by
  rw [eps_eq, tau_eq]; exact_mod_cast (by norm_num : (8796093 / 8796093022208 : ℝ) < 10995116 / 1099511627776)

/-- Flooring the total does not change whether it exceeds the threshold. -/
theorem tau_lt_max_iff (s : EReal) : tau < max eps s ↔ tau < s :=
  lt_max_iff.trans ⟨fun h => h.resolve_left (not_lt_of_gt eps_lt_tau), Or.inr⟩

/-- A nonnegative factor other than `+∞` comes out of a finite sum of extended reals. -/
theorem sum_mul_of_nonneg {ι : Type} (s : Finset ι) (f : ι → EReal) {c : EReal} (h0 : 0 ≤ c) (ht : c ≠ ⊤) :
    ∑ p ∈ s, f p * c = (∑ p ∈ s, f p) * c := by
  classical
  induction s using Finset.induction_on with
  | empty => simp
  | insert a s ha ih =>
    rw [Finset.sum_insert ha, Finset.sum_insert ha, ih, EReal.right_distrib_of_nonneg_of_ne_top h0 ht]

/-- A number at least the floor has a nonnegative inverse other than `+∞`, and dividing by it is multiplying by that
    inverse. -/
theorem inv_of_eps_le {y : EReal} (h : eps ≤ y) :
    0 ≤ y⁻¹ ∧ y⁻¹ ≠ ⊤ ∧ ∀ x, Ideal.div x y = x * y⁻¹ := by
  have hy : 0 < y := lt_of_lt_of_le eps_pos h
  refine ⟨EReal.inv_nonneg_of_nonneg hy.le, ?_, fun x => by rw [Ideal.div, if_neg hy.ne']⟩
  induction y with
  | bot => simp
  | top => simp
  | coe r => rw [← EReal.coe_inv]; exact EReal.coe_ne_top _

/-- Dividing before the sum or after it: the sum over the positions of coefficient times value is the pooled state, at
    every mask and every value, infinite ones included. -/
theorem sum_coef_mul {ι : Type} [Fintype ι] (w v : ι → EReal) : ∑ p, coef w p * v p = pooled w v := by
  unfold coef pooled
  simp only [tau_lt_max_iff]
  by_cases h : tau < ∑ q, w q
  · simp only [if_pos h]
    rw [max_comm (∑ q, w q) eps]
    obtain ⟨h0, ht, hd⟩ := inv_of_eps_le (le_max_left eps (∑ q, w q))
    simp only [hd]
    rw [← sum_mul_of_nonneg _ _ h0 ht]
    exact Finset.sum_congr rfl fun p _ => by rw [mul_right_comm, mul_comm (w p)]
  · simp only [if_neg h]
    rw [Ideal.div_coe (by norm_num), ← sum_mul_of_nonneg _ _ (by exact_mod_cast (by norm_num : (0 : ℝ) ≤ 1 / 576)) (EReal.coe_ne_top _)]
    exact Finset.sum_congr rfl fun p _ => mul_comm _ _

end Cert.Readout

end
-- ==== Proof.Payload.lean ====
/-
  What the kernel body computes from the values it loads, read at an index on the extended reals: the pooled state of each
  of the two batch rows of a step, the squared distances to the slots, and the two rows it stores.
-/
module

public import proofs.«01_k».proof.Proof.Mean
public import proofs.«01_k».proof.Proof.Gen.KernelIdeal.Skeleton
public import Idealize.ShloMosaic.Lib.Pointwise
public import Idealize.ShloMosaic.PureOps.IdealRules

@[expose] public section

noncomputable section

namespace Cert.KernelIdeal.Payload

open Idealize.ShloMosaic Cert.KernelIdeal Cert.KernelIdeal.Gen Cert.Readout
open scoped BigOperators

/-- Row `k` of the first half of the eight rows loaded from the memory: a slot of the step's first state. -/
abbrev lo (k : Fin 4) : Fin 8 := ⟨k.val, by omega⟩

/-- Row `k` of the second half of the eight rows: a slot of the step's second state. -/
abbrev hi (k : Fin 4) : Fin 8 := ⟨4 + k.val, by omega⟩

/-- The named constant of the kernel is `1/576`. -/
theorem named_inv_hw : (Named.named κ "inv_hw" 0x3AE38E39#32 : Ideal .f32) = ((1 / 576 : ℝ) : EReal) :=
  IdealRules.named_const.ideal_named_scalar _ _ _ _ rfl

/-- The product of the selected mask row with the frame is, at channel `d`, the pooled state. -/
theorem pay4_apply (w : FVec Ideal S1x1x576 .f32) (v : FVec Ideal S1x576x384 .f32) (d : Fin 384) :
    k0_pay4 (F := Ideal) w v (ix2 0 d) = pooled (fun p : Fin 576 => w (ix3 0 0 p)) (fun p => v (ix3 0 p d)) := by
  rw [← sum_coef_mul]
  pointwise [k0_pay4, dot_S1x576_S576x384_S1x384_1_0_0_1_n_n]
  refine Finset.sum_congr rfl fun p _ => congrArg (· * v (ix3 0 p d)) ?_
  unfold coef
  rw [Fin.sum_univ_one]
  split_ifs
  · pointwise
  · pointwise
    exact named_inv_hw

/-- The second half of the body pools by the same product. -/
theorem pay8_apply (w : FVec Ideal S1x1x576 .f32) (v : FVec Ideal S1x576x384 .f32) (d : Fin 384) :
    k0_pay8 (F := Ideal) w v (ix2 0 d) = pooled (fun p : Fin 576 => w (ix3 0 0 p)) (fun p => v (ix3 0 p d)) :=
  pay4_apply w v d

/-- The second half's column of squared distances. -/
theorem pay10_apply (keys : FVec Ideal S1x1x1x8x384 .f32) (w : FVec Ideal S1x1x576 .f32) (v : FVec Ideal S1x576x384 .f32)
    (k : Fin 4) :
    k0_pay10 (F := Ideal) (k0_pay2 keys) w v (ix2 k 0)
      = dist (fun d => pooled (fun p : Fin 576 => w (ix3 0 0 p)) (fun p => v (ix3 0 p d)))
          (fun k d => keys (ix5 0 0 0 (hi k) d)) k := by
  pointwise [k0_pay10, k0_pay2, pay8_apply]
  rfl

/-- The first half's column of scores: the exponentials of the negated squared distances less their maximum. -/
theorem pay6_apply (keys : FVec Ideal S1x1x1x8x384 .f32) (w : FVec Ideal S1x1x576 .f32) (v : FVec Ideal S1x576x384 .f32)
    (k : Fin 4) :
    k0_pay6 (F := Ideal) keys w v (ix2 k 0)
      = score (fun k => -dist (fun d => pooled (fun p : Fin 576 => w (ix3 0 0 p)) (fun p => v (ix3 0 p d)))
          (fun k d => keys (ix5 0 0 0 (lo k) d)) k) k := by
  pointwise [k0_pay6, k0_pay2, pay4_apply]
  simp only [zero_sub, ofBits_negInf]
  rfl

/-- The first row stored, at channel `d`: the readout of the step's first state. -/
theorem row0_apply (keys vals : FVec Ideal S1x1x1x8x384 .f32) (w : FVec Ideal S1x1x576 .f32)
    (v : FVec Ideal S1x576x384 .f32) (g : FVec Ideal S1x1 .f32) (d : Fin 384) :
    k0_pay7 (F := Ideal) (k0_pay4 w v) (k0_pay5 vals) (k0_pay6 keys w v) g (ix3 0 0 d)
      = readout (fun d => pooled (fun p : Fin 576 => w (ix3 0 0 p)) (fun p => v (ix3 0 p d)))
          (fun k d => keys (ix5 0 0 0 (lo k) d)) (fun k d => vals (ix5 0 0 0 (lo k) d)) (g (ix2 0 0)) d := by
  pointwise [k0_pay7, k0_pay5, k0_pay3, pay4_apply, pay6_apply]
  rfl

/-- The second row stored, at channel `d`: the readout of the step's second state. -/
theorem row1_apply (keys vals : FVec Ideal S1x1x1x8x384 .f32) (w : FVec Ideal S1x1x576 .f32)
    (v : FVec Ideal S1x576x384 .f32) (g : FVec Ideal S1x1 .f32) (d : Fin 384) :
    k0_pay1 (F := Ideal) (k0_pay8 w v) (k0_pay9 (k0_pay3 vals)) (k0_pay10 (k0_pay2 keys) w v) g (ix3 0 0 d)
      = readout (fun d => pooled (fun p : Fin 576 => w (ix3 0 0 p)) (fun p => v (ix3 0 p d)))
          (fun k d => keys (ix5 0 0 0 (hi k) d)) (fun k d => vals (ix5 0 0 0 (hi k) d)) (g (ix2 0 0)) d := by
  pointwise [k0_pay1, k0_pay9, k0_pay3, pay8_apply, pay10_apply]
  simp only [zero_sub, ofBits_negInf]
  rfl

end Cert.KernelIdeal.Payload

end
-- ==== Proof.Block.lean ====
/-
  What one step of the kernel leaves in its output block: the two rows of the block are the readouts of the two states
  whose frames the step was given.
-/
module

public import proofs.«01_k».proof.Proof.Payload
public import proofs.«01_k».proof.Proof.Gen.KernelIdeal.Frame
public import Idealize.ShloMosaic.Lib.Pipeline.Value
public import Idealize.ShloMosaic.Lib.Pipeline.ValueKit

@[expose] public section

noncomputable section

namespace Cert.KernelIdeal.Block

open Idealize.ShloMosaic Idealize.ShloMosaic.TcCoe Idealize.ShloMosaic.Tactic
open Idealize.SL.Sem
open Cert.KernelIdeal Cert.KernelIdeal.Gen Cert.KernelIdeal.Payload Cert.Readout

/-- Slot `k` of state `r` among the eight rows the memory holds for a step. -/
abbrev slot (r : Fin 2) (k : Fin 4) : Fin 8 := ⟨4 * r.val + k.val, by omega⟩

/-- The step's number, out of the sixteen. -/
abbrev step (i : grid0.Coords) : Fin 16 := ⟨(i 0).val, (i 0).isLt⟩

/-- Row `r` of step `n`'s output block, from the step's frames `x0`, all the masks `x1`, the whole memory `x2` (keys, then
    values) and the gate `x3`. -/
def rowOf (n : Fin 16) (x0 : Vec Ideal S2x576x384 .f32) (x1 : Vec Ideal S16x2x576 .f32) (x2 : Vec Ideal S1x2x16x8x384 .f32)
    (x3 : Vec Ideal S1x1 .f32) (r : Fin 2) (d : Fin 384) : EReal :=
  readout (fun d => pooled (fun p : Fin 576 => x1 (ix3 n r p)) (fun p => x0 (ix3 r p d)))
    (fun k d => x2 (ix5 0 0 n (slot r k) d)) (fun k d => x2 (ix5 0 1 n (slot r k) d)) (x3 (ix2 0 0)) d

/-- A step's number as the word the body indexes with. -/
theorem step_word (i : grid0.Coords) : (Scalar.indexCast (BitVec.ofNat 32 (i 0).val)).toNat = (step i).val := by
  revert i; decide +kernel

/-- Row `r` of a step's masks, loaded. -/
theorem ld_mask (x1 : Vec Ideal S16x2x576 .f32) (n : Fin 16) (r : Fin 2) (w : Nat) (hw : w = n.val) (r' : Nat)
    (hr : r' = r.val) (inb : ∀ a, (![w, r', 0] : Fin 3 → Nat) a + (![1, 1, 576] : Fin 3 → Nat) a ≤ S16x2x576.size a)
    (p : Fin 576) :
    View.ld x1 (Rect.unit (s := S16x2x576) ![w, r', 0] ![1, 1, 576] inb) (ix3 0 0 p) = x1 (ix3 n r p) :=
  View.ld_unit_apply_of (S := S16x2x576) x1 _ _ _ _ _ fun a => by
    subst hw hr; fin_cases a <;> simp

/-- Frame `r` of a step's block, loaded. -/
theorem ld_frame (x0 : Vec Ideal S2x576x384 .f32) (r : Fin 2) (r' : Nat) (hr : r' = r.val)
    (inb : ∀ a, (![r', 0, 0] : Fin 3 → Nat) a + (![1, 576, 384] : Fin 3 → Nat) a ≤ S2x576x384.size a)
    (p : Fin 576) (d : Fin 384) :
    View.ld x0 (Rect.unit (s := S2x576x384) ![r', 0, 0] ![1, 576, 384] inb) (ix3 0 p d) = x0 (ix3 r p d) :=
  View.ld_unit_apply_of (S := S2x576x384) x0 _ _ _ _ _ fun a => by
    subst hr; fin_cases a <;> simp

/-- The eight rows of a step in half `s` of the memory (keys or values), loaded. -/
theorem ld_memory (x2 : Vec Ideal S1x2x16x8x384 .f32) (n : Fin 16) (s : Fin 2) (w : Nat) (hw : w = n.val) (s' : Nat)
    (hs : s' = s.val)
    (inb : ∀ a, (![0, s', w, 0, 0] : Fin 5 → Nat) a + (![1, 1, 1, 8, 384] : Fin 5 → Nat) a ≤ S1x2x16x8x384.size a)
    (k : Fin 8) (d : Fin 384) :
    View.ld x2 (Rect.unit (s := S1x2x16x8x384) ![0, s', w, 0, 0] ![1, 1, 1, 8, 384] inb) (ix5 0 0 0 k d)
      = x2 (ix5 0 s n k d) :=
  View.ld_unit_apply_of (S := S1x2x16x8x384) x2 _ _ _ _ _ fun a => by
    subst hw hs; fin_cases a <;> simp

/-- The gate, loaded. -/
theorem ld_gate (x3 : Vec Ideal S1x1 .f32) (inb : ∀ a, (![0, 0] : Fin 2 → Nat) a + (![1, 1] : Fin 2 → Nat) a ≤ S1x1.size a) :
    View.ld x3 (Rect.unit (s := S1x1) ![0, 0] ![1, 1] inb) (ix2 0 0) = x3 (ix2 0 0) :=
  View.ld_unit_apply_of (S := S1x1) x3 _ _ _ _ _ fun a => by fin_cases a <;> rfl

/-- An index of one stored row is its channel. -/
theorem row_idx (j : S1x1x384.Idx) : j = ix3 0 0 (j 2) := by
  funext a; fin_cases a
  · exact Subsingleton.elim (α := Fin 1) _ _
  · exact Subsingleton.elim (α := Fin 1) _ _
  · rfl

/-- Row 0's term over loads that are the step's blocks at an index is the step's row 0. -/
theorem row0_of (n : Fin 16) (x0 : Vec Ideal S2x576x384 .f32) (x1 : Vec Ideal S16x2x576 .f32)
    (x2 : Vec Ideal S1x2x16x8x384 .f32) (x3 : Vec Ideal S1x1 .f32) (w : Vec Ideal S1x1x576 .f32)
    (v : Vec Ideal S1x576x384 .f32) (keys vals : Vec Ideal S1x1x1x8x384 .f32) (g : Vec Ideal S1x1 .f32)
    (hw : ∀ p, w (ix3 0 0 p) = x1 (ix3 n 0 p)) (hv : ∀ p d, v (ix3 0 p d) = x0 (ix3 0 p d))
    (hk : ∀ k d, keys (ix5 0 0 0 k d) = x2 (ix5 0 0 n k d)) (hvals : ∀ k d, vals (ix5 0 0 0 k d) = x2 (ix5 0 1 n k d))
    (hg : g (ix2 0 0) = x3 (ix2 0 0)) (d : Fin 384) :
    k0_pay7 (k0_pay4 w v) (k0_pay5 vals) (k0_pay6 keys w v) g (ix3 0 0 d) = rowOf n x0 x1 x2 x3 0 d := by
  have hs : ∀ k, slot 0 k = lo k := fun k => Fin.ext (by simp)
  rw [row0_apply]
  simp only [rowOf, hs, hw, hv, hk, hvals, hg]

/-- Row 1's term over loads that are the step's blocks at an index is the step's row 1. -/
theorem row1_of (n : Fin 16) (x0 : Vec Ideal S2x576x384 .f32) (x1 : Vec Ideal S16x2x576 .f32)
    (x2 : Vec Ideal S1x2x16x8x384 .f32) (x3 : Vec Ideal S1x1 .f32) (w : Vec Ideal S1x1x576 .f32)
    (v : Vec Ideal S1x576x384 .f32) (keys vals : Vec Ideal S1x1x1x8x384 .f32) (g : Vec Ideal S1x1 .f32)
    (hw : ∀ p, w (ix3 0 0 p) = x1 (ix3 n 1 p)) (hv : ∀ p d, v (ix3 0 p d) = x0 (ix3 1 p d))
    (hk : ∀ k d, keys (ix5 0 0 0 k d) = x2 (ix5 0 0 n k d)) (hvals : ∀ k d, vals (ix5 0 0 0 k d) = x2 (ix5 0 1 n k d))
    (hg : g (ix2 0 0) = x3 (ix2 0 0)) (d : Fin 384) :
    k0_pay1 (k0_pay8 w v) (k0_pay9 (k0_pay3 vals)) (k0_pay10 (k0_pay2 keys) w v) g (ix3 0 0 d) = rowOf n x0 x1 x2 x3 1 d := by
  have hs : ∀ k, slot 1 k = hi k := fun k => Fin.ext (by simp)
  rw [row1_apply]
  simp only [rowOf, hs, hw, hv, hk, hvals, hg]

/-- The output block after the step's two stores, at row `r` and channel `d`. -/
theorem out_apply (c : Dev nD) (i : grid0.Coords) (arg1 : Memref sig .tc .vmem S2x576x384 .f32) (harg1 : arg1.IsWhole)
    (arg2 : Memref sig .tc .vmem S16x2x576 .f32) (harg2 : arg2.IsWhole)
    (arg3 : Memref sig .tc .vmem S1x2x16x8x384 .f32) (harg3 : arg3.IsWhole)
    (arg4 : Memref sig .tc .vmem S1x1 .f32) (harg4 : arg4.IsWhole) (arg5 : Memref sig .tc .vmem S1x2x384 .f32)
    (harg5 : arg5.IsWhole) (x0 : Vec Ideal S2x576x384 .f32) (x1 : Vec Ideal S16x2x576 .f32)
    (x2 : Vec Ideal S1x2x16x8x384 .f32) (x3 : Vec Ideal S1x1 .f32) (y : S1x2x384.Idx) :
    out0_A_4 (F := Ideal) c i arg1 harg1 arg2 harg2 arg3 harg3 arg4 harg4 arg5 harg5 x0 x1 x2 x3 y
      = rowOf (step i) x0 x1 x2 x3 (y 1) (y 2) := by
  unfold out0_A_4
  rw [View.read_writes_eq_canon _ _ _ (cover0_A_4 c i arg1 harg1 arg2 harg2 arg3 harg3 arg4 harg4 arg5 harg5 x0 x1 x2 x3)]
  refine View.canon_apply_of_pieces (fun y : S1x2x384.Idx => rowOf (step i) x0 x1 x2 x3 (y 1) (y 2)) _ ?_ y
    (cover0_A_4 c i arg1 harg1 arg2 harg2 arg3 harg3 arg4 harg4 arg5 harg5 x0 x1 x2 x3 y)
  unfold kernelRun0_A
  dsimp only
  sl_unfold_words
  simp only [View.readAt_eq_ld, harg1.read_unread, harg2.read_unread, harg3.read_unread, harg4.read_unread]
  intro p hp j
  simp only [List.mem_cons, List.mem_nil_iff, or_false] at hp
  rcases hp with rfl | rfl
  · have hj := row_idx j
    generalize j 2 = d at hj
    subst hj
    have h1 : (Rect.unit (s := S1x2x384) ![0, 1, 0] ![1, 1, 384] inb_S1x2x384_S1x1x384_0_1_0).emb (ix3 0 0 d) 1 = (1 : Fin 2) := rfl
    have h2 : (Rect.unit (s := S1x2x384) ![0, 1, 0] ![1, 1, 384] inb_S1x2x384_S1x1x384_0_1_0).emb (ix3 0 0 d) 2 = d :=
      Fin.ext (by rw [ValueKit.rect_emb_unit_val]; simp)
    refine (row1_of (step i) x0 x1 x2 x3 _ _ _ _ _ (fun p => ld_mask x1 (step i) 1 _ (step_word i) 1 rfl _ p)
      (fun p d => ld_frame x0 1 1 rfl _ p d) (fun k d => ld_memory x2 (step i) 0 _ (step_word i) 0 rfl _ k d)
      (fun k d => ld_memory x2 (step i) 1 _ (step_word i) 1 rfl _ k d) (ld_gate x3 _) d).trans ?_
    exact (congrArg₂ (rowOf (step i) x0 x1 x2 x3) h1 h2).symm
  · have hj := row_idx j
    generalize j 2 = d at hj
    subst hj
    have h1 : (Rect.unit (s := S1x2x384) ![0, 0, 0] ![1, 1, 384] inb_S1x2x384_S1x1x384_0_0_0).emb (ix3 0 0 d) 1 = (0 : Fin 2) := rfl
    have h2 : (Rect.unit (s := S1x2x384) ![0, 0, 0] ![1, 1, 384] inb_S1x2x384_S1x1x384_0_0_0).emb (ix3 0 0 d) 2 = d :=
      Fin.ext (by rw [ValueKit.rect_emb_unit_val]; simp)
    refine (row0_of (step i) x0 x1 x2 x3 _ _ _ _ _ (fun p => ld_mask x1 (step i) 0 _ (step_word i) 0 rfl _ p)
      (fun p d => ld_frame x0 0 0 rfl _ p d) (fun k d => ld_memory x2 (step i) 0 _ (step_word i) 0 rfl _ k d)
      (fun k d => ld_memory x2 (step i) 1 _ (step_word i) 1 rfl _ k d) (ld_gate x3 _) d).trans ?_
    exact (congrArg₂ (rowOf (step i) x0 x1 x2 x3) h1 h2).symm

end Cert.KernelIdeal.Block

end
-- ==== Proof.Host.lean ====
/-
  What the kernel's launch finds in its four operand arrays, at an index, in terms of the arguments: the host operations
  before the launch only re-arrange the arguments.
-/
module

public import proofs.«01_k».proof.Proof.Gen.KernelIdeal.Frame
public import Idealize.ShloMosaic.Lib.Pointwise
public import Idealize.ShloMosaic.Lib.StableHlo.Run

@[expose] public section

noncomputable section

namespace Cert.KernelIdeal.Host

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The batch entry of state `s` of the thirty-two. -/
abbrev batch (s : Fin 32) : Fin 4 := ⟨s.val / 8, by omega⟩

/-- The number of state `s` within its batch entry. -/
abbrev node (s : Fin 32) : Fin 8 := ⟨s.val % 8, by omega⟩

/-- The image row of position `p`. -/
abbrev prow (p : Fin 576) : Fin 24 := ⟨p.val / 24, by omega⟩

/-- The image column of position `p`. -/
abbrev pcol (p : Fin 576) : Fin 24 := ⟨p.val % 24, by omega⟩

/-- State `r` of the two a step `i` reads. -/
abbrev state (i : Fin 16) (r : Fin 2) : Fin 32 := ⟨2 * i.val + r.val, by omega⟩

/-- The frames' array holds the features of state `s` with the position before the channel. -/
theorem frames_apply (s : Fin 32) (p : Fin 576) (d : Fin 384) :
    V m c main_v1 (ix3 s p d) = m ((c : Thread nD τ).loc main_arg0) (ix5 (batch s) (node s) d (prow p) (pcol p)) := by
  simp only [V, V0, hostOps0, List.flatten_cons, List.flatten_nil, List.append_nil]
  after_results
  show shapeCast S32x576x384 (transpose S4x8x24x24x384 [0, 1, 3, 4, 2] (m (c, Proc.tc.devRef main_arg0))
    transposes_S4x8x384x24x24_S4x8x24x24x384_0_1_3_4_2) shapeCasts_S4x8x24x24x384_S32x576x384 (ix3 s p d) = _
  rw [Idealize.ShloMosaic.shapeCast_apply _ _ _ (ix5 (batch s) (node s) (prow p) (pcol p) d)]
  · pointwise
  · rw [rowMajor_val5 _ _ _ _ _ rfl rfl rfl rfl, rowMajor_val3 _ _ _ rfl rfl]
    simp
    omega

/-- The masks' array holds, for step `i`, the masks of its two states. -/
theorem masks_apply (i : Fin 16) (r : Fin 2) (p : Fin 576) :
    V m c main_v2 (ix3 i r p) = m ((c : Thread nD τ).loc main_arg3) (ix4 (batch (state i r)) (node (state i r)) (prow p) (pcol p)) := by
  simp only [V, V0, hostOps0, List.flatten_cons, List.flatten_nil, List.append_nil]
  after_results
  show shapeCast S16x2x576 (m (c, Proc.tc.devRef main_arg3)) shapeCasts_S4x8x24x24_S16x2x576 (ix3 i r p) = _
  rw [Idealize.ShloMosaic.shapeCast_apply _ _ _ (ix4 (batch (state i r)) (node (state i r)) (prow p) (pcol p))]
  rw [rowMajor_val4 _ _ _ _ rfl rfl rfl, rowMajor_val3 _ _ _ rfl rfl]
  simp
  omega

/-- The gate's array holds the gate. -/
theorem gate_apply : V m c main_v7 (ix2 0 0) = m ((c : Thread nD τ).loc main_arg6) ix0 := by
  simp only [V, V0, hostOps0, List.flatten_cons, List.flatten_nil, List.append_nil]
  after_results
  show shapeCast S1x1 (m (c, Proc.tc.devRef main_arg6)) shapeCasts_S_S1x1 (ix2 0 0) = _
  rw [Idealize.ShloMosaic.shapeCast_apply _ _ _ ix0]
  rfl

/-- The memory's array holds, for step `i`, the keys of its two states. -/
theorem keys_apply (i : Fin 16) (r : Fin 2) (k : Fin 4) (d : Fin 384) :
    V m c main_v6 (ix5 0 0 i (⟨4 * r.val + k.val, by omega⟩ : Fin 8) d)
      = m ((c : Thread nD τ).loc main_arg4) (ix4 (batch (state i r)) (node (state i r)) k d) := by
  simp only [V, V0, hostOps0, List.flatten_cons, List.flatten_nil, List.append_nil]
  after_results
  show shapeCast S1x2x16x8x384 (concatenate S2x4x8x4x384 0
    [⟨S1x4x8x4x384, broadcastInDim S1x4x8x4x384 ![1, 2, 3, 4] bcast_S4x8x4x384_S1x4x8x4x384_1_2_3_4 (m (c, Proc.tc.devRef main_arg4))⟩,
     ⟨S1x4x8x4x384, broadcastInDim S1x4x8x4x384 ![1, 2, 3, 4] bcast_S4x8x4x384_S1x4x8x4x384_1_2_3_4 (m (c, Proc.tc.devRef main_arg5))⟩]
    concatenates_S1x4x8x4x384_S1x4x8x4x384_S2x4x8x4x384_d0) shapeCasts_S2x4x8x4x384_S1x2x16x8x384 _ = _
  rw [Idealize.ShloMosaic.shapeCast_apply _ _ _ (ix5 0 (batch (state i r)) (node (state i r)) k d)]
  · pointwise
  · rw [rowMajor_val5 _ _ _ _ _ rfl rfl rfl rfl, rowMajor_val5 _ _ _ _ _ rfl rfl rfl rfl]
    simp
    omega

/-- The memory's array holds, for step `i`, the values of its two states. -/
theorem values_apply (i : Fin 16) (r : Fin 2) (k : Fin 4) (d : Fin 384) :
    V m c main_v6 (ix5 0 1 i (⟨4 * r.val + k.val, by omega⟩ : Fin 8) d)
      = m ((c : Thread nD τ).loc main_arg5) (ix4 (batch (state i r)) (node (state i r)) k d) := by
  simp only [V, V0, hostOps0, List.flatten_cons, List.flatten_nil, List.append_nil]
  after_results
  show shapeCast S1x2x16x8x384 (concatenate S2x4x8x4x384 0
    [⟨S1x4x8x4x384, broadcastInDim S1x4x8x4x384 ![1, 2, 3, 4] bcast_S4x8x4x384_S1x4x8x4x384_1_2_3_4 (m (c, Proc.tc.devRef main_arg4))⟩,
     ⟨S1x4x8x4x384, broadcastInDim S1x4x8x4x384 ![1, 2, 3, 4] bcast_S4x8x4x384_S1x4x8x4x384_1_2_3_4 (m (c, Proc.tc.devRef main_arg5))⟩]
    concatenates_S1x4x8x4x384_S1x4x8x4x384_S2x4x8x4x384_d0) shapeCasts_S2x4x8x4x384_S1x2x16x8x384 _ = _
  rw [Idealize.ShloMosaic.shapeCast_apply _ _ _ (ix5 1 (batch (state i r)) (node (state i r)) k d)]
  · pointwise
  · rw [rowMajor_val5 _ _ _ _ _ rfl rfl rfl rfl, rowMajor_val5 _ _ _ _ _ rfl rfl rfl rfl]
    simp
    omega

end Cert.KernelIdeal.Host

end
-- ==== Proof.Array.lean ====
/-
  What the kernel's launch leaves in its result array: each step writes the two rows of its two states, and the sixteen
  steps' blocks are the whole array.
-/
module

public import proofs.«01_k».proof.Proof.Answer
public import proofs.«01_k».proof.Proof.Block
public import proofs.«01_k».proof.Proof.Host

@[expose] public section

noncomputable section

namespace Cert.KernelIdeal.Array

open Idealize.ShloMosaic Idealize.ShloMosaic.TcCoe Idealize.SL.Sem
open Cert.KernelIdeal Cert.KernelIdeal.Gen Cert.KernelIdeal.Host Cert.KernelIdeal.Block Cert.Readout

variable (m : (ℓ : Loc nD τ sig) → Buf (Elt Ideal) ℓ) (c : Dev nD)

/-- The answer at device `c`, from the contents its arguments are launched with. -/
def result (b : Fin 4) (n : Fin 8) (d : Fin 384) : EReal :=
  answer (m ((c : Thread nD τ).loc main_arg0)) (m ((c : Thread nD τ).loc main_arg3)) (m ((c : Thread nD τ).loc main_arg4))
    (m ((c : Thread nD τ).loc main_arg5)) (m ((c : Thread nD τ).loc main_arg6) ix0) b n d

/-- The frames of step `t` are block `t` of the frames' array. -/
theorem index0 : ∀ t : Fin cfg0.N, win0_0.index t = ![(grid0.coords t 0).val, 0, 0] :=
  (by decide +kernel : ∀ t : Fin grid0.N, _)
/-- Every step is given all the masks. -/
theorem index1 : ∀ t : Fin cfg0.N, win0_1.index t = ![0, 0, 0] := (by decide +kernel : ∀ t : Fin grid0.N, _)
/-- Every step is given the whole memory. -/
theorem index2 : ∀ t : Fin cfg0.N, win0_2.index t = ![0, 0, 0, 0, 0] := (by decide +kernel : ∀ t : Fin grid0.N, _)
/-- Every step is given the gate. -/
theorem index3 : ∀ t : Fin cfg0.N, win0_3.index t = ![0, 0] := (by decide +kernel : ∀ t : Fin grid0.N, _)
/-- Step `t` writes block `t` of the result array. -/
theorem index4 : ∀ t : Fin cfg0.N, win0_4.index t = ![(grid0.coords t 0).val, 0, 0] :=
  (by decide +kernel : ∀ t : Fin grid0.N, _)

/-- The frame of state `r` of step `t`, in the features. -/
theorem block0 (t : Fin cfg0.N) (r : Fin 2) (p : Fin 576) (d : Fin 384) :
    (iblk m c 0 t : Vec Ideal S2x576x384 .f32) (ix3 r p d)
      = m ((c : Thread nD τ).loc main_arg0) (ix5 (batch (state (step (grid0.coords t)) r))
          (node (state (step (grid0.coords t)) r)) d (prow p) (pcol p)) := by
  refine Eq.trans ?_ (frames_apply m c (state (step (grid0.coords t)) r) p d)
  blk_simp [iblk]
  refine congrArg (V m c main_v1) ?_
  blk_ext [index0]

/-- The masks of step `i`'s states: every step is given them all. -/
theorem block1 (t : Fin cfg0.N) (i : Fin 16) (r : Fin 2) (p : Fin 576) :
    (iblk m c 1 t : Vec Ideal S16x2x576 .f32) (ix3 i r p)
      = m ((c : Thread nD τ).loc main_arg3) (ix4 (batch (state i r)) (node (state i r)) (prow p) (pcol p)) := by
  refine Eq.trans ?_ (masks_apply m c i r p)
  blk_simp [iblk]
  refine congrArg (V m c main_v2) ?_
  blk_ext [index1]

/-- The memory, given whole. -/
theorem block2 (t : Fin cfg0.N) (s : Fin 2) (i : Fin 16) (k : Fin 8) (d : Fin 384) :
    (iblk m c 2 t : Vec Ideal S1x2x16x8x384 .f32) (ix5 0 s i k d) = V m c main_v6 (ix5 0 s i k d) := by
  blk_simp [iblk]
  refine congrArg (V m c main_v6) ?_
  blk_ext [index2]

/-- The keys of step `i`'s states. -/
theorem block2_keys (t : Fin cfg0.N) (i : Fin 16) (r : Fin 2) (k : Fin 4) (d : Fin 384) :
    (iblk m c 2 t : Vec Ideal S1x2x16x8x384 .f32) (ix5 0 0 i (slot r k) d)
      = m ((c : Thread nD τ).loc main_arg4) (ix4 (batch (state i r)) (node (state i r)) k d) :=
  (block2 m c t 0 i (slot r k) d).trans (keys_apply m c i r k d)

/-- The values of step `i`'s states. -/
theorem block2_values (t : Fin cfg0.N) (i : Fin 16) (r : Fin 2) (k : Fin 4) (d : Fin 384) :
    (iblk m c 2 t : Vec Ideal S1x2x16x8x384 .f32) (ix5 0 1 i (slot r k) d)
      = m ((c : Thread nD τ).loc main_arg5) (ix4 (batch (state i r)) (node (state i r)) k d) :=
  (block2 m c t 1 i (slot r k) d).trans (values_apply m c i r k d)

/-- The gate. -/
theorem block3 (t : Fin cfg0.N) :
    (iblk m c 3 t : Vec Ideal S1x1 .f32) (ix2 0 0) = m ((c : Thread nD τ).loc main_arg6) ix0 := by
  refine Eq.trans ?_ (gate_apply m c)
  blk_simp [iblk]
  refine congrArg (V m c main_v7) ?_
  blk_ext [index3]

/-- Row `r` of step `t` is the answer at its state. -/
theorem row_eq (t : Fin cfg0.N) (r : Fin 2) (d : Fin 384) :
    rowOf (step (grid0.coords t)) (iblk m c 0 t) (iblk m c 1 t) (iblk m c 2 t) (iblk m c 3 t) r d
      = result m c (batch (state (step (grid0.coords t)) r)) (node (state (step (grid0.coords t)) r)) d := by
  unfold rowOf result answer
  simp only [block0, block1, block2_keys, block2_values, block3, ← pooled_reindex position]
  rfl

/-- The result array after the launch: row `r` of block `i` is the answer at state `r` of step `i`. -/
theorem final : (dats m 0 c).arrAt 4 cfg0.N
    = fun i : S16x2x384.Idx => result m c (batch (state (i 0) (i 1))) (node (state (i 0) (i 1))) (i 2) := by
  refine (dats m 0 c).arrAt_eq_of_covers 4 _ (by decide +kernel) fun t hf y => ?_
  blk_simp
  rw [after0_4]
  unfold outsAt0
  refine (out_apply c (grid0.coords t) _ _ _ _ _ _ _ _ _ _ _ _ _ _ y).trans ((row_eq m c t (y 1) (y 2)).trans ?_)
  have e0 : (win0_4.blk t).view.emb y 0 = step (grid0.coords t) := Fin.ext (by idx_bounds y; blk_simp [index4])
  have e1 : (win0_4.blk t).view.emb y 1 = y 1 := Fin.ext (by blk_simp [index4])
  have e2 : (win0_4.blk t).view.emb y 2 = y 2 := Fin.ext (by blk_simp [index4])
  rw [e0, e1, e2]

end Cert.KernelIdeal.Array

end
-- ==== Proof.Run.lean ====
/-
  The kernel's run on the extended reals: the result buffer ends holding the answer, the arguments unchanged.
-/
module

public import proofs.«01_k».proof.Proof.Array

@[expose] public section

noncomputable section

namespace Cert.KernelIdeal.Run

open Idealize.ShloMosaic Idealize.ShloMosaic.TcCoe Idealize.SL.Sem
open Cert.KernelIdeal Cert.KernelIdeal.Gen Cert.KernelIdeal.Host Cert.KernelIdeal.Array Cert.Readout

variable (m : (ℓ : Loc nD τ sig) → Buf (Elt Ideal) ℓ) (ρ : Dev nD → PrngReg)

/-- After the launch, the result array keeps what the steps wrote. -/
theorem array_after (c : Dev nD) :
    Pipeline.withArrays spec0 c (V0 m c) (fun w => (dats m 0 c).arrAt w cfg0.N) (Proc.devRef .tc main_v8)
      = fun i : S16x2x384.Idx => result m c (batch (state (i 0) (i 1))) (node (state (i 0) (i 1))) (i 2) :=
  (Pipeline.withArrays_arr spec0 launch0.win.arr_inj c (V0 m c) _ 4).trans (final m c)

/-- What the operation after the launch leaves: the two rows of the sixteen steps are the eight states of the four batch
    entries. -/
theorem result_after (c : Dev nD) :
    Pipeline.afterTail₀ cfgs (dats m) 0 (V0 m) [hostOps1] c main_v9
      = fun i : S4x8x384.Idx => result m c (i 0) (i 1) (i 2) := by
  unfold Pipeline.afterTail₀
  simp only [hostOps1, List.flatten_cons, List.flatten_nil, List.append_nil]
  after_results
  funext i
  show shapeCast S4x8x384 (Pipeline.withArrays spec0 c (V0 m c) (fun w => (dats m 0 c).arrAt w cfg0.N) (Proc.devRef .tc main_v8))
    shapeCasts_S16x2x384_S4x8x384 i = _
  rw [array_after]
  obtain ⟨b, n, d, rfl⟩ : ∃ (b : Fin 4) (n : Fin 8) (d : Fin 384), i = ix3 b n d :=
    ⟨i 0, i 1, i 2, by funext a; fin_cases a <;> rfl⟩
  rw [Idealize.ShloMosaic.shapeCast_apply _ _ _ (ix3 (⟨(8 * b.val + n.val) / 2, by omega⟩ : Fin 16)
    (⟨(8 * b.val + n.val) % 2, by omega⟩ : Fin 2) d)]
  · have hb : batch (state ⟨(8 * b.val + n.val) / 2, by omega⟩ ⟨(8 * b.val + n.val) % 2, by omega⟩) = b := Fin.ext (by simp; omega)
    have hn : node (state ⟨(8 * b.val + n.val) / 2, by omega⟩ ⟨(8 * b.val + n.val) % 2, by omega⟩) = n := Fin.ext (by simp; omega)
    exact congrArg₂ (fun b n => result m c b n d) hb hn
  · rw [rowMajor_val3 _ _ _ rfl rfl, rowMajor_val3 _ _ _ rfl rfl]
    simp
    omega

/-- The run: every weakly fair execution ends with the answer in the result buffer and the arguments unchanged. -/
theorem run : θ_run defs (onTc (τ := τ) (main (F := Ideal))) ⟨m, fun _ => 0, ρ⟩ (fun r => ∀ c : Dev nD,
      r.2.mem ((c.tc : Thread nD τ).loc main_v9) = (fun i : S4x8x384.Idx => result m c (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono
    (fun _ h c => ⟨((h.1 c).2 main_v9 (Pipeline.mem_restRefs_of main_v9 (by decide) (by decide))).trans (result_after m c), h.2 c⟩)
    (θ_run_and (run_main m ρ) (unchanged m ρ))

end Cert.KernelIdeal.Run

end
-- ==== Proof.RefValue.lean ====
/-
  The reference's result at an index is the answer: its pooled states, its soft assignments and its gated sum read one
  stage at a time.
-/
module

public import proofs.«01_k».proof.Proof.Answer
public import proofs.«01_k».proof.Proof.Consts
public import proofs.«01_k».proof.Proof.Gen.ReferenceIdeal.Read
public import Idealize.ShloMosaic.Lib.Pointwise

@[expose] public section

noncomputable section

namespace Cert.ReferenceIdeal.RefValue

open Idealize.ShloMosaic Idealize.ShloMosaic.TcCoe Idealize.SL.Sem
open Cert.ReferenceIdeal Cert.ReferenceIdeal.Gen Cert.ReferenceIdeal.Read Cert.Readout
open scoped BigOperators

variable (x0 : FVec Ideal S4x8x384x24x24 .f32) (x3 : FVec Ideal S4x8x24x24 .f32) (x4 x5 : FVec Ideal S4x8x4x384 .f32)
variable (x6 : FVec Ideal S_ .f32)

/-- The sum of an array over its last two axes of five, at an index: the sum over the pairs of positions. -/
theorem sum_image (v : S4x8x384x24x24.Idx → EReal) (b : Fin 4) (n : Fin 8) (d : Fin 384) :
    Ideal.hostReduceAdd reducesTo_S4x8x384x24x24_S4x8x384_d3_4 v 0 (ix3 b n d)
      = ∑ q : Fin 24 × Fin 24, v (ix5 b n d q.1 q.2) := by
  refine (zero_add _).trans (Finset.sum_filter_eq_sum_of_fiber _ (fun q : Fin 24 × Fin 24 => ix5 b n d q.1 q.2)
    (fun _ _ e => Prod.ext (congrFun e 3) (congrFun e 4)) (fun i => ?_) v)
  constructor
  · intro e
    refine ⟨(i 3, i 4), ?_⟩
    funext a
    apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => rfl
  · rintro ⟨q, rfl⟩
    funext a
    apply Fin.ext
    match a with
    | ⟨0, _⟩ => rfl
    | ⟨1, _⟩ => rfl
    | ⟨2, _⟩ => rfl

/-- Dividing by one changes nothing. -/
theorem div_by_one (x : EReal) : Ideal.div x 1 = x := by
  unfold Ideal.div
  rw [if_neg one_ne_zero, ← EReal.coe_one, ← EReal.coe_inv, inv_one, EReal.coe_one, mul_one]

/-- The floored total weight of a mask. -/
theorem total_apply (b : Fin 4) (n : Fin 8) :
    val_main_v2 (F := Ideal) x3 (ix4 b n 0 0) = max eps (∑ q : Fin 24 × Fin 24, x3 (ix4 b n q.1 q.2)) := by
  pointwise [val_main_v2, val_main_call0_v1, val_main_call0_v0, val_main_cst_0, val_main_v1, val_main_v0, val_main_cst]
  rw [← Fintype.sum_prod_type (fun q : Fin 24 × Fin 24 => x3 (ix4 b n q.1 q.2))]
  rfl

/-- The pooled states. -/
theorem pooled_apply (b : Fin 4) (n : Fin 8) (d : Fin 384) :
    val_main_v16 (F := Ideal) x0 x3 (ix3 b n d)
      = pooled (fun q : Fin 24 × Fin 24 => x3 (ix4 b n q.1 q.2)) (fun q => x0 (ix5 b n d q.1 q.2)) := by
  pointwise [val_main_v16, val_main_call1_v0, val_main_v15, val_main_v14, val_main_v13, val_main_v12, val_main_v11, val_main_v10,
    val_main_v9, val_main_v8, val_main_v7, val_main_v6, val_main_v5, val_main_v4, val_main_v3, total_apply, val_main_cst_1,
    val_main_cst_2, val_main_cst_3, val_main_cst_4]
  simp only [sum_image, ofBits_576]
  unfold pooled
  congr 2
  refine Finset.sum_congr rfl fun q _ => ?_
  pointwise

/-- The soft assignment's scores. -/
theorem score_apply (b : Fin 4) (n : Fin 8) (k : Fin 4) :
    val_main_v31 (F := Ideal) x0 x3 x4 (ix3 b n k)
      = score (fun k => -dist (fun d => pooled (fun q : Fin 24 × Fin 24 => x3 (ix4 b n q.1 q.2)) (fun q => x0 (ix5 b n d q.1 q.2)))
          (fun k d => x4 (ix4 b n k d)) k) k := by
  pointwise [val_main_v31, val_main_v30, val_main_v29, val_main_v28, val_main_v27, val_main_v26, val_main_v25, val_main_v24,
    val_main_v23, val_main_v22, val_main_v21, val_main_v20, val_main_v19, val_main_v18, val_main_v17, pooled_apply,
    val_main_cst_5, val_main_cst_6, val_main_cst_7, val_main_cst_8]
  simp only [div_by_one, ofBits_negInf, bot_le, max_eq_right]
  rfl

/-- The reference's result is the answer. -/
theorem result_apply (b : Fin 4) (n : Fin 8) (d : Fin 384) :
    val_main_v42 (F := Ideal) x0 x3 x4 x5 x6 (ix3 b n d) = answer x0 x3 x4 x5 (x6 ix0) b n d := by
  pointwise [val_main_v42, val_main_v41, val_main_v40, val_main_v39, val_main_v38, val_main_v37, val_main_v36, val_main_v35,
    val_main_v34, val_main_v33, val_main_v32, score_apply, pooled_apply, val_main_cst_9, val_main_cst_10]
  rfl

end Cert.ReferenceIdeal.RefValue

end
-- ==== Proof.Equation.lean ====
/-
  The two runs from memories agreeing on the arguments end with equal results: both are the answer.
-/
module

public import proofs.«01_k».proof.Defs
public import proofs.«01_k».proof.Proof.Run
public import proofs.«01_k».proof.Proof.RefValue
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem Cert.Readout

/-- The reference's result on device `c`, from its arguments' contents, is the answer at every index. -/
theorem reference_result (m' : (ℓ : Loc ReferenceIdeal.nD ReferenceIdeal.τ ReferenceIdeal.sig) → Buf (Elt Ideal) ℓ)
    (c : Dev ReferenceIdeal.nD) (i : ReferenceIdeal.S4x8x384.Idx) :
    ReferenceIdeal.Value.res_main_v42 m' c i
      = answer (m' ((c.tc : Thread ReferenceIdeal.nD ReferenceIdeal.τ).loc ReferenceIdeal.main_arg0))
          (m' ((c.tc : Thread ReferenceIdeal.nD ReferenceIdeal.τ).loc ReferenceIdeal.main_arg3))
          (m' ((c.tc : Thread ReferenceIdeal.nD ReferenceIdeal.τ).loc ReferenceIdeal.main_arg4))
          (m' ((c.tc : Thread ReferenceIdeal.nD ReferenceIdeal.τ).loc ReferenceIdeal.main_arg5))
          (m' ((c.tc : Thread ReferenceIdeal.nD ReferenceIdeal.τ).loc ReferenceIdeal.main_arg6) ix0) (i 0) (i 1) (i 2) := by
  obtain ⟨b, n, d, rfl⟩ : ∃ (b : Fin 4) (n : Fin 8) (d : Fin 384), i = ix3 b n d :=
    ⟨i 0, i 1, i 2, by funext a; fin_cases a <;> rfl⟩
  rw [ReferenceIdeal.Read.val_main_v42_eq]
  exact ReferenceIdeal.RefValue.result_apply _ _ _ _ _ b n d

/-- The value claim: on the extended reals the kernel and the reference end with equal results, arguments unchanged. -/
theorem results_equal :
    algebraic_KernelIdeal_ReferenceIdeal (hKernelIdeal := KernelIdeal.Gen.facts) (hReferenceIdeal := ReferenceIdeal.Gen.facts) := by
  intro m ρ m' ρ' _ hagree
  refine ⟨fun c => fun i : KernelIdeal.S4x8x384.Idx => KernelIdeal.Array.result m c (i 0) (i 1) (i 2), KernelIdeal.Run.run m ρ, ?_⟩
  refine (θ_run ReferenceIdeal.defs _ _).mono (fun r h c => ⟨(h c).1.trans ?_, (h c).2⟩) (ReferenceIdeal.Value.run (F := Ideal) m' ρ')
  funext i
  obtain ⟨h0, -, -, h3, h4, h5, h6⟩ := hagree c
  refine (reference_result m' c i).trans ?_
  rw [h0, h3, h4, h5, h6]
  rfl

/-- The reference leaves its arguments unchanged and its semaphores at zero: it has none. -/
theorem reference_quiescent : quiescent_ReferenceIdeal (hReferenceIdeal := ReferenceIdeal.Gen.facts) :=
  fun m ρ _ => (θ_run ReferenceIdeal.defs _ _).mono
    (fun r h => ⟨fun c => (h c).2, sem_eq_zero_of_no_sems (by decide) r.2⟩) (ReferenceIdeal.Value.run (F := Ideal) m ρ)

end Cert.Proof

end
-- ==== Proof.lean ====
/-
  The proof of `Cert.Claim`: the kernel, its idealised form and the reference each run to an end with arguments unchanged
  and semaphores at zero; the idealised form is the kernel with one literal named; and on the extended reals the
  idealised form and the reference end with equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  reference_quiescent,
  IdealRules.named_const.statement Cert.KernelIdeal.κ "inv_hw" .f32 0x3AE38E39#32 ((1 / 576 : ℝ) : EReal) rfl,
  results_equal⟩

end Cert.Proof

end
